-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x512x3 : Shape := ⟨3, ![8, 512, 3]⟩
abbrev S8x16384x3 : Shape := ⟨3, ![8, 16384, 3]⟩
abbrev S9x3 : Shape := ⟨2, ![9, 3]⟩
abbrev S9 : Shape := ⟨1, ![9]⟩
abbrev S3x3 : Shape := ⟨2, ![3, 3]⟩
abbrev S3 : Shape := ⟨1, ![3]⟩
abbrev S1x3 : Shape := ⟨2, ![1, 3]⟩
abbrev S1x512 : Shape := ⟨2, ![1, 512]⟩
abbrev S1x1 : Shape := ⟨2, ![1, 1]⟩
abbrev S1 : Shape := ⟨1, ![1]⟩
abbrev S_ : Shape := ⟨0, ![]⟩

class Facts : Prop where
  bcast_S_S8x512x3 : S_.BroadcastsInDim S8x512x3 (![] : Fin 0 → Fin S8x512x3.rank)
  bcast_S_S8x16384x3 : S_.BroadcastsInDim S8x16384x3 (![] : Fin 0 → Fin S8x16384x3.rank)
  bcast_S_S9x3 : S_.BroadcastsInDim S9x3 (![] : Fin 0 → Fin S9x3.rank)
  bcast_S_S9 : S_.BroadcastsInDim S9 (![] : Fin 0 → Fin S9.rank)
  bcast_S_S3x3 : S_.BroadcastsInDim S3x3 (![] : Fin 0 → Fin S3x3.rank)
  bcast_S_S3 : S_.BroadcastsInDim S3 (![] : Fin 0 → Fin S3.rank)
  bcast_S_S1x3 : S_.BroadcastsInDim S1x3 (![] : Fin 0 → Fin S1x3.rank)

variable [Facts]

def fn_part1 {F : FTy → Type} [FloatOps F] (main_arg6 : FVec F S1x3 .f32) (main_v2 : IVec S8x512x3 1) (main_v5 : IVec S8x16384x3 1) (main_v8 : IVec S9x3 1) (main_v11 : IVec S9 1) (main_v14 : IVec S3x3 1) (main_v17 : IVec S3 1) : IVec S8x512x3 1 × IVec S8x16384x3 1 × IVec S9x3 1 × IVec S9 1 × IVec S3x3 1 × IVec S3 1 × IVec S1x3 1 :=
  let main_v18 : FVec F S1x3 .f32 := Host.absf main_arg6
  let main_cst_5 : FVec F S_ .f32 := constant S_ .f32 0x7F800000#32
  let main_v19 : FVec F S1x3 .f32 := broadcastInDim S1x3 ![] bcast_S_S1x3 main_cst_5
  let main_v20 : IVec S1x3 1 := cmpf .olt main_v18 main_v19
  (main_v2, main_v5, main_v8, main_v11, main_v14, main_v17, main_v20)

def fn {F : FTy → Type} [FloatOps F] (main_arg0 : FVec F S8x512x3 .f32) (main_arg1 : FVec F S8x16384x3 .f32) (main_arg2 : FVec F S9x3 .f32) (main_arg3 : FVec F S9 .f32) (main_arg4 : FVec F S3x3 .f32) (main_arg5 : FVec F S3 .f32) (main_arg6 : FVec F S1x3 .f32) (main_arg7 : FVec F S1x512 .f32) (main_arg8 : FVec F S1x512 .f32) (main_arg9 : FVec F S1x1 .f32) (main_arg10 : FVec F S1 .f32) : IVec S8x512x3 1 × IVec S8x16384x3 1 × IVec S9x3 1 × IVec S9 1 × IVec S3x3 1 × IVec S3 1 × IVec S1x3 1 :=
  let main_v0 : FVec F S8x512x3 .f32 := Host.absf main_arg0
  let main_cst : FVec F S_ .f32 := constant S_ .f32 0x7F800000#32
  let main_v1 : FVec F S8x512x3 .f32 := broadcastInDim S8x512x3 ![] bcast_S_S8x512x3 main_cst
  let main_v2 : IVec S8x512x3 1 := cmpf .olt main_v0 main_v1
  let main_v3 : FVec F S8x16384x3 .f32 := Host.absf main_arg1
  let main_cst_0 : FVec F S_ .f32 := constant S_ .f32 0x7F800000#32
  let main_v4 : FVec F S8x16384x3 .f32 := broadcastInDim S8x16384x3 ![] bcast_S_S8x16384x3 main_cst_0
  let main_v5 : IVec S8x16384x3 1 := cmpf .olt main_v3 main_v4
  let main_v6 : FVec F S9x3 .f32 := Host.absf main_arg2
  let main_cst_1 : FVec F S_ .f32 := constant S_ .f32 0x7F800000#32
  let main_v7 : FVec F S9x3 .f32 := broadcastInDim S9x3 ![] bcast_S_S9x3 main_cst_1
  let main_v8 : IVec S9x3 1 := cmpf .olt main_v6 main_v7
  let main_v9 : FVec F S9 .f32 := Host.absf main_arg3
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_v12 : FVec F S3x3 .f32 := Host.absf main_arg4
  let main_cst_3 : FVec F S_ .f32 := constant S_ .f32 0x7F800000#32
  let main_v13 : FVec F S3x3 .f32 := broadcastInDim S3x3 ![] bcast_S_S3x3 main_cst_3
  let main_v14 : IVec S3x3 1 := cmpf .olt main_v12 main_v13
  let main_v15 : FVec F S3 .f32 := Host.absf main_arg5
  let main_cst_4 : FVec F S_ .f32 := constant S_ .f32 0x7F800000#32
  let main_v16 : FVec F S3 .f32 := broadcastInDim S3 ![] bcast_S_S3 main_cst_4
  let main_v17 : IVec S3 1 := cmpf .olt main_v15 main_v16
  fn_part1 (F := F) main_arg6 main_v2 main_v5 main_v8 main_v11 main_v14 main_v17
-- ==== Kernel.lean ====
abbrev S8x512x3 : Shape := ⟨3, ![8, 512, 3]⟩
abbrev S8x16384x3 : Shape := ⟨3, ![8, 16384, 3]⟩
abbrev S9x3 : Shape := ⟨2, ![9, 3]⟩
abbrev S9 : Shape := ⟨1, ![9]⟩
abbrev S3x3 : Shape := ⟨2, ![3, 3]⟩
abbrev S3 : Shape := ⟨1, ![3]⟩
abbrev S1x3 : Shape := ⟨2, ![1, 3]⟩
abbrev S1x512 : Shape := ⟨2, ![1, 512]⟩
abbrev S1x1 : Shape := ⟨2, ![1, 1]⟩
abbrev S1 : Shape := ⟨1, ![1]⟩
abbrev S8x512 : Shape := ⟨2, ![8, 512]⟩
abbrev S512 : Shape := ⟨1, ![512]⟩

abbrev nBuf : Space → Nat
  | .hbm => 13
  | .vmem => 4
  | .smem => 0
  | _ => 0

abbrev bufTy : (tb : Table) → Fin (tcTables nBuf tb) → BufTy
  | .hbm, ⟨0, _⟩ => ⟨S8x512x3, .f32⟩
  | .hbm, ⟨1, _⟩ => ⟨S8x16384x3, .f32⟩
  | .hbm, ⟨2, _⟩ => ⟨S9x3, .f32⟩
  | .hbm, ⟨3, _⟩ => ⟨S9, .f32⟩
  | .hbm, ⟨4, _⟩ => ⟨S3x3, .f32⟩
  | .hbm, ⟨5, _⟩ => ⟨S3, .f32⟩
  | .hbm, ⟨6, _⟩ => ⟨S1x3, .f32⟩
  | .hbm, ⟨7, _⟩ => ⟨S1x512, .f32⟩
  | .hbm, ⟨8, _⟩ => ⟨S1x512, .f32⟩
  | .hbm, ⟨9, _⟩ => ⟨S1x1, .f32⟩
  | .hbm, ⟨10, _⟩ => ⟨S1, .f32⟩
  | .hbm, ⟨11, _⟩ => ⟨S1x1, .f32⟩
  | .hbm, ⟨12, _⟩ => ⟨S8x512, .f32⟩
  | .local _ .vmem, ⟨0, _⟩ => ⟨S1x512, .f32⟩
  | .local _ .vmem, ⟨1, _⟩ => ⟨S1x1, .f32⟩
  | .local _ .vmem, ⟨2, _⟩ => ⟨S1x1, .f32⟩
  | .local _ .vmem, ⟨3, _⟩ => ⟨S8x512, .f32⟩
  | _, _ => ⟨S8x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x512x3 : Shape := ⟨3, ![8, 512, 3]⟩
abbrev S8x16384x3 : Shape := ⟨3, ![8, 16384, 3]⟩
abbrev S9x3 : Shape := ⟨2, ![9, 3]⟩
abbrev S9 : Shape := ⟨1, ![9]⟩
abbrev S3x3 : Shape := ⟨2, ![3, 3]⟩
abbrev S3 : Shape := ⟨1, ![3]⟩
abbrev S1x3 : Shape := ⟨2, ![1, 3]⟩
abbrev S1x512 : Shape := ⟨2, ![1, 512]⟩
abbrev S1x1 : Shape := ⟨2, ![1, 1]⟩
abbrev S1 : Shape := ⟨1, ![1]⟩
abbrev S_ : Shape := ⟨0, ![]⟩
abbrev S8x512 : Shape := ⟨2, ![8, 512]⟩
abbrev S8x512x1 : Shape := ⟨3, ![8, 512, 1]⟩
abbrev S8x512x16384 : Shape := ⟨3, ![8, 512, 16384]⟩
abbrev S8x16384 : Shape := ⟨2, ![8, 16384]⟩
abbrev S8x1x16384 : Shape := ⟨3, ![8, 1, 16384]⟩
abbrev S8x512x8 : Shape := ⟨3, ![8, 512, 8]⟩
abbrev S8x8x512 : Shape := ⟨3, ![8, 8, 512]⟩
abbrev S8 : Shape := ⟨1, ![8]⟩
abbrev S8x1x1 : Shape := ⟨3, ![8, 1, 1]⟩
abbrev S32768 : Shape := ⟨1, ![32768]⟩
abbrev S131072x3 : Shape := ⟨2, ![131072, 3]⟩
abbrev S32768x1 : Shape := ⟨2, ![32768, 1]⟩
abbrev S32768x3 : Shape := ⟨2, ![32768, 3]⟩
abbrev S8x8x512x3 : Shape := ⟨4, ![8, 8, 512, 3]⟩
abbrev S8x1x512x3 : Shape := ⟨4, ![8, 1, 512, 3]⟩
abbrev S1x1x3 : Shape := ⟨3, ![1, 1, 3]⟩
abbrev S8x512x512 : Shape := ⟨3, ![8, 512, 512]⟩
abbrev S8x3x512 : Shape := ⟨3, ![8, 3, 512]⟩
abbrev S8x1x512 : Shape := ⟨3, ![8, 1, 512]⟩
abbrev S1x1x512 : Shape := ⟨3, ![1, 1, 512]⟩

abbrev nBuf : Space → Nat
  | .hbm => 185
  | .vmem => 0
  | .smem => 0
  | _ => 0

abbrev hbmTy0_0 (i : Nat) : BufTy := match i % 128 with
  | 0 => ⟨S8x512x3, .f32⟩
  | 1 => ⟨S8x16384x3, .f32⟩
  | 2 => ⟨S9x3, .f32⟩
  | 3 => ⟨S9, .f32⟩
  | 4 => ⟨S3x3, .f32⟩
  | 5 => ⟨S3, .f32⟩
  | 6 => ⟨S1x3, .f32⟩
  | 7 => ⟨S1x512, .f32⟩
  | 8 => ⟨S1x512, .f32⟩
  | 9 => ⟨S1x1, .f32⟩
  | 10 => ⟨S1, .f32⟩
  | 11 => ⟨S8x512x3, .f32⟩
  | 12 => ⟨S_, .f32⟩
  | 13 => ⟨S8x512, .f32⟩
  | 14 => ⟨S8x512x1, .f32⟩
  | 15 => ⟨S8x512x16384, .f32⟩
  | 16 => ⟨S_, .f32⟩
  | 17 => ⟨S8x512x16384, .f32⟩
  | 18 => ⟨S8x512x16384, .f32⟩
  | 19 => ⟨S8x512x16384, .f32⟩
  | 20 => ⟨S8x512x16384, .f32⟩
  | 21 => ⟨S8x16384x3, .f32⟩
  | 22 => ⟨S_, .f32⟩
  | 23 => ⟨S8x16384, .f32⟩
  | 24 => ⟨S8x1x16384, .f32⟩
  | 25 => ⟨S8x512x16384, .f32⟩
  | 26 => ⟨S8x512x16384, .f32⟩
  | 27 => ⟨S8x512x16384, .f32⟩
  | 28 => ⟨S8x512x8, .f32⟩
  | 29 => ⟨S8x512x8, .i32⟩
  | 30 => ⟨S8x8x512, .i32⟩
  | 31 => ⟨S8, .i32⟩
  | 32 => ⟨S_, .i32⟩
  | 33 => ⟨S8, .i32⟩
  | 34 => ⟨S8, .i32⟩
  | 35 => ⟨S8x1x1, .i32⟩
  | 36 => ⟨S8x8x512, .i32⟩
  | 37 => ⟨S8x8x512, .i32⟩
  | 38 => ⟨S32768, .i32⟩
  | 39 => ⟨S131072x3, .f32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32768x3, .f32⟩
  | 49 => ⟨S8x8x512x3, .f32⟩
  | 50 => ⟨S_, .f32⟩
  | 51 => ⟨S8x512x3, .f32⟩
  | 52 => ⟨S_, .f32⟩
  | 53 => ⟨S8x512x3, .f32⟩
  | 54 => ⟨S8x512x3, .f32⟩
  | 55 => ⟨S8x1x512x3, .f32⟩
  | 56 => ⟨S8x8x512x3, .f32⟩
  | 57 => ⟨S8x8x512x3, .f32⟩
  | 58 => ⟨S8x8x512x3, .f32⟩
  | 59 => ⟨S_, .f32⟩
  | 60 => ⟨S8x512x3, .f32⟩
  | 61 => ⟨S8x1x512x3, .f32⟩
  | 62 => ⟨S8x8x512x3, .f32⟩
  | 63 => ⟨S8x8x512x3, .f32⟩
  | 64 => ⟨S_, .f32⟩
  | 65 => ⟨S8x512x3, .f32⟩
  | 66 => ⟨S3x3, .f32⟩
  | 67 => ⟨S3x3, .f32⟩
  | 68 => ⟨S3x3, .f32⟩
  | 69 => ⟨S3, .f32⟩
  | 70 => ⟨S3, .f32⟩
  | 71 => ⟨S3, .f32⟩
  | 72 => ⟨S3x3, .f32⟩
  | 73 => ⟨S8x512x3, .f32⟩
  | 74 => ⟨S1x1x3, .f32⟩
  | 75 => ⟨S8x512x3, .f32⟩
  | 76 => ⟨S8x512x3, .f32⟩
  | 77 => ⟨S3x3, .f32⟩
  | 78 => ⟨S8x512x3, .f32⟩
  | 79 => ⟨S1x1x3, .f32⟩
  | 80 => ⟨S8x512x3, .f32⟩
  | 81 => ⟨S8x512x3, .f32⟩
  | 82 => ⟨S3x3, .f32⟩
  | 83 => ⟨S8x512x3, .f32⟩
  | 84 => ⟨S1x1x3, .f32⟩
  | 85 => ⟨S8x512x3, .f32⟩
  | 86 => ⟨S8x512x3, .f32⟩
  | 87 => ⟨S8x512x512, .f32⟩
  | 88 => ⟨S_, .f32⟩
  | 89 => ⟨S_, .f32⟩
  | 90 => ⟨S8x512x512, .f32⟩
  | 91 => ⟨S8x512x512, .f32⟩
  | 92 => ⟨S_, .f32⟩
  | 93 => ⟨S8x512, .f32⟩
  | 94 => ⟨S_, .f32⟩
  | 95 => ⟨S8x512, .f32⟩
  | 96 => ⟨S8x512, .f32⟩
  | 97 => ⟨S8x512x1, .f32⟩
  | 98 => ⟨S8x512x512, .f32⟩
  | 99 => ⟨S8x512x512, .f32⟩
  | 100 => ⟨S8x512x512, .f32⟩
  | 101 => ⟨S_, .f32⟩
  | 102 => ⟨S8x512, .f32⟩
  | 103 => ⟨S8x512x1, .f32⟩
  | 104 => ⟨S8x512x512, .f32⟩
  | 105 => ⟨S8x512x512, .f32⟩
  | 106 => ⟨S8x512x3, .f32⟩
  | 107 => ⟨S3x3, .f32⟩
  | 108 => ⟨S8x512x3, .f32⟩
  | 109 => ⟨S1x1x3, .f32⟩
  | 110 => ⟨S8x512x3, .f32⟩
  | 111 => ⟨S8x512x3, .f32⟩
  | 112 => ⟨S8x3x512, .f32⟩
  | 113 => ⟨S8x512x1, .f32⟩
  | 114 => ⟨S8x1x512, .f32⟩
  | 115 => ⟨S_, .f32⟩
  | 116 => ⟨S8, .f32⟩
  | 117 => ⟨S8x1x1, .f32⟩
  | 118 => ⟨S_, .f32⟩
  | 119 => ⟨S8x1x1, .f32⟩
  | 120 => ⟨S8x1x1, .f32⟩
  | 121 => ⟨S_, .i32⟩
  | 122 => ⟨S_, .f32⟩
  | 123 => ⟨S8, .f32⟩
  | 124 => ⟨S8x1x1, .f32⟩
  | 125 => ⟨S_, .f32⟩
  | 126 => ⟨S8x1x1, .f32⟩
  | 127 => ⟨S8x1x1, .f32⟩
  | _ => ⟨S8x512x3, .f32⟩

abbrev hbmTy0_1 (i : Nat) : BufTy := match i % 128 with
  | 0 => ⟨S8x1x512, .f32⟩
  | 1 => ⟨S8x1x512, .f32⟩
  | 2 => ⟨S8x1x512, .f32⟩
  | 3 => ⟨S_, .f32⟩
  | 4 => ⟨S_, .f32⟩
  | 5 => ⟨S_, .f32⟩
  | 6 => ⟨S_, .f32⟩
  | 7 => ⟨S8, .f32⟩
  | 8 => ⟨S8x1x1, .f32⟩
  | 9 => ⟨S8x1x1, .f32⟩
  | 10 => ⟨S8x1x1, .f32⟩
  | 11 => ⟨S_, .f32⟩
  | 12 => ⟨S_, .i1⟩
  | 13 => ⟨S_, .f32⟩
  | 14 => ⟨S_, .f32⟩
  | 15 => ⟨S8x1x1, .f32⟩
  | 16 => ⟨S8x1x1, .f32⟩
  | 17 => ⟨S8x1x512, .f32⟩
  | 18 => ⟨S8x1x512, .f32⟩
  | 19 => ⟨S_, .f32⟩
  | 20 => ⟨S8x1x1, .f32⟩
  | 21 => ⟨S8x1x1, .f32⟩
  | 22 => ⟨S8x1x1, .f32⟩
  | 23 => ⟨S8x1x512, .f32⟩
  | 24 => ⟨S8x1x512, .f32⟩
  | 25 => ⟨S1x1x512, .f32⟩
  | 26 => ⟨S8x1x512, .f32⟩
  | 27 => ⟨S8x1x512, .f32⟩
  | 28 => ⟨S1x1x512, .f32⟩
  | 29 => ⟨S8x1x512, .f32⟩
  | 30 => ⟨S8x1x512, .f32⟩
  | 31 => ⟨S_, .f32⟩
  | 32 => ⟨S8x1x512, .f32⟩
  | 33 => ⟨S8x1x512, .f32⟩
  | 34 => ⟨S8x1x512, .f32⟩
  | 35 => ⟨S_, .f32⟩
  | 36 => ⟨S_, .f32⟩
  | 37 => ⟨S8x1x512, .f32⟩
  | 38 => ⟨S8x1x512, .f32⟩
  | 39 => ⟨S8x1x512, .f32⟩
  | 40 => ⟨S8x1x512, .f32⟩
  | 41 => ⟨S_, .f32⟩
  | 42 => ⟨S8x1x512, .f32⟩
  | 43 => ⟨S8x1x512, .f32⟩
  | 44 => ⟨S_, .f32⟩
  | 45 => ⟨S8x1x512, .f32⟩
  | 46 => ⟨S8x1x512, .f32⟩
  | 47 => ⟨S8x1x512, .f32⟩
  | 48 => ⟨S8x1x512, .f32⟩
  | 49 => ⟨S_, .f32⟩
  | 50 => ⟨S8x1x512, .f32⟩
  | 51 => ⟨S8x1x512, .f32⟩
  | 52 => ⟨S_, .f32⟩
  | 53 => ⟨S8x1x512, .f32⟩
  | 54 => ⟨S8x1x512, .f32⟩
  | 55 => ⟨S8x512x1, .f32⟩
  | 56 => ⟨S8x512, .f32⟩
  | _ => ⟨S8x512x3, .f32⟩

abbrev hbmTy (i : Nat) : BufTy := match i / 128 with
  | 0 => hbmTy0_0 i
  | 1 => hbmTy0_1 i
  | _ => ⟨S8x512x3, .f32⟩

abbrev bufTy : (tb : Table) → Fin (tcTables nBuf tb) → BufTy
  | .hbm, ⟨i, _⟩ => hbmTy i
  | _, _ => ⟨S8x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_values : Ref sig .tc := ⟨.hbm, 28, rfl⟩
abbrev main_indices : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_12 : Ref sig .tc := ⟨.hbm, 115, rfl⟩
abbrev main_v88 : Ref sig .tc := ⟨.hbm, 116, rfl⟩
abbrev main_v89 : Ref sig .tc := ⟨.hbm, 117, rfl⟩
abbrev main_cst_13 : Ref sig .tc := ⟨.hbm, 118, rfl⟩
abbrev main_v90 : Ref sig .tc := ⟨.hbm, 119, rfl⟩
abbrev main_v91 : Ref sig .tc := ⟨.hbm, 120, rfl⟩
abbrev main_c_14 : Ref sig .tc := ⟨.hbm, 121, rfl⟩
abbrev main_call0_cst : Ref sig .tc := ⟨.hbm, 122, rfl⟩
abbrev main_call0_v0 : Ref sig .tc := ⟨.hbm, 123, rfl⟩
abbrev main_call0_v1 : Ref sig .tc := ⟨.hbm, 124, rfl⟩
abbrev main_call0_cst_0 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_v5 : Ref sig .tc := ⟨.hbm, 129, rfl⟩
abbrev main_call0_v6 : Ref sig .tc := ⟨.hbm, 130, rfl⟩
abbrev main_call0_v7 : Ref sig .tc := ⟨.hbm, 131, rfl⟩
abbrev main_call0_cst_1 : Ref sig .tc := ⟨.hbm, 132, rfl⟩
abbrev main_call0_v8 : Ref sig .tc := ⟨.hbm, 133, rfl⟩
abbrev main_call0_cst_2 : Ref sig .tc := ⟨.hbm, 134, rfl⟩
abbrev main_call0_v9 : Ref sig .tc := ⟨.hbm, 135, rfl⟩
abbrev main_call0_v10 : Ref sig .tc := ⟨.hbm, 136, rfl⟩
abbrev main_call0_v11 : Ref sig .tc := ⟨.hbm, 137, rfl⟩
abbrev main_call0_v12 : Ref sig .tc := ⟨.hbm, 138, rfl⟩
abbrev main_call0_cst_3 : Ref sig .tc := ⟨.hbm, 139, rfl⟩
abbrev main_call0_v13 : Ref sig .tc := ⟨.hbm, 140, rfl⟩
abbrev main_call0_cst_4 : Ref sig .tc := ⟨.hbm, 141, rfl⟩
abbrev main_call0_call0_v0 : Ref sig .tc := ⟨.hbm, 142, rfl⟩
abbrev main_call0_call0_v1 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_15 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_16 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_17 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_18 : Ref sig .tc := ⟨.hbm, 177, rfl⟩
abbrev main_v122 : Ref sig .tc := ⟨.hbm, 178, rfl⟩
abbrev main_v123 : Ref sig .tc := ⟨.hbm, 179, rfl⟩
abbrev main_cst_19 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩

abbrev nD : Nat := 1
abbrev τ : Topo := Topo.v7x

variable {F : FTy → Type} [FloatOps F]
-- ==== Proof.Extended.lean ====
/- Extended real arithmetic the certificate rests on, free of any program: which extended reals are real
   numbers, what a softmax sums to, what a layer norm makes of a constant, and the two spellings of a GELU. -/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Extended

open Idealize.ShloMosaic
open scoped BigOperators

/-! ## Real values -/

/-- An extended real is a real number: neither infinity. -/
def IsReal (x : EReal) : Prop := ∃ r : ℝ, x = (r : EReal)

/-- A real number is one. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- Strictly between the infinities is real. -/
theorem isReal_of_lt {x : EReal} (hb : ⊥ < x) (ht : x < ⊤) : IsReal x := by
  induction x using EReal.rec with
  | bot => exact absurd hb (lt_irrefl _)
  | top => exact absurd ht (lt_irrefl _)
  | coe r => exact ⟨r, rfl⟩

/-- A real value lies strictly above the lower infinity. -/
theorem IsReal.bot_lt {x : EReal} (h : IsReal x) : ⊥ < x := by
  obtain ⟨r, rfl⟩ := h; exact EReal.bot_lt_coe r

/-- A real value lies strictly below the upper infinity. -/
theorem IsReal.lt_top {x : EReal} (h : IsReal x) : x < ⊤ := by
  obtain ⟨r, rfl⟩ := h; exact EReal.coe_lt_top r

/-- A value whose absolute value is below the upper infinity is real. -/
theorem isReal_of_abs_lt {x : EReal} (h : max x (-x) < ⊤) : IsReal x := by
  obtain ⟨h1, h2⟩ := max_lt_iff.1 h
  induction x using EReal.rec with
  | bot => exact absurd h2 (by simp)
  | top => exact absurd h1 (lt_irrefl _)
  | coe r => exact ⟨r, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A real divided by a nonzero real is real. -/
theorem IsReal.div_coe {x : EReal} (hx : IsReal x) {y : ℝ} (hy : y ≠ 0) : IsReal (Ideal.div x (y : EReal)) := by
  rw [Ideal.div_coe hy]; exact hx.mul (isReal_coe _)

/-- The embedding of the reals carries a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem isReal_sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The greatest of finitely many real values, at least one, is real, taken from the lower infinity up. -/
theorem isReal_fold_max {ι : Type} (s : Finset ι) (hs : s.Nonempty) (f : ι → EReal) (hf : ∀ i ∈ s, IsReal (f i)) :
    IsReal (s.fold max ⊥ f) := by
  obtain ⟨i, hi⟩ := hs
  refine isReal_of_lt ((Finset.lt_fold_max ⊥).2 (Or.inr ⟨i, hi, (hf i hi).bot_lt⟩)) ?_
  exact (Finset.fold_max_lt ⊤).2 ⟨bot_lt_top, fun j hj => (hf j hj).lt_top⟩

/-! ## Softmax -/

/-- Over finitely many real scores shifted by a real, the exponentials over their sum are real. -/
theorem isReal_softmax {ι : Type} [Fintype ι] [Nonempty ι] (f : ι → EReal) (hf : ∀ i, IsReal (f i)) (M : EReal)
    (hM : IsReal M) (i : ι) :
    IsReal (Ideal.div (Ideal.exp (f i - M)) (∑ k, Ideal.exp (f k - M))) := by
  choose g hg using hf
  obtain ⟨a, rfl⟩ := hM
  have he : ∀ k, Ideal.exp (f k - (a : EReal)) = ((Real.exp (g k - a) : ℝ) : EReal) := fun k => by
    rw [hg k, ← EReal.coe_sub, Ideal.exp_coe]
  have hS : (0 : ℝ) < ∑ k, Real.exp (g k - a) := Finset.sum_pos (fun k _ => Real.exp_pos _) Finset.univ_nonempty
  rw [Finset.sum_congr rfl fun k _ => he k, ← coe_sum, he i]
  exact (isReal_coe _).div_coe hS.ne'

/-- The same exponentials over their sum add up to one. -/
theorem sum_softmax {ι : Type} [Fintype ι] [Nonempty ι] (f : ι → EReal) (hf : ∀ i, IsReal (f i)) (M : EReal)
    (hM : IsReal M) :
    ∑ i, Ideal.div (Ideal.exp (f i - M)) (∑ k, Ideal.exp (f k - M)) = 1 := by
  choose g hg using hf
  obtain ⟨a, rfl⟩ := hM
  have he : ∀ k, Ideal.exp (f k - (a : EReal)) = ((Real.exp (g k - a) : ℝ) : EReal) := fun k => by
    rw [hg k, ← EReal.coe_sub, Ideal.exp_coe]
  have hS : (0 : ℝ) < ∑ k, Real.exp (g k - a) := Finset.sum_pos (fun k _ => Real.exp_pos _) Finset.univ_nonempty
  rw [Finset.sum_congr rfl fun k _ => he k, ← coe_sum]
  rw [Finset.sum_congr rfl fun k _ => by rw [he k, Ideal.div_coe hS.ne', ← EReal.coe_mul]]
  rw [← coe_sum, ← Finset.sum_mul, mul_one_div_cancel hS.ne', EReal.coe_one]

/-- Real weights that add up to one average a real constant to itself. -/
theorem sum_mul_const {ι : Type} [Fintype ι] (p : ι → EReal) (hp : ∀ i, IsReal (p i)) (h1 : ∑ i, p i = 1) {x : EReal}
    (hx : IsReal x) : ∑ i, p i * x = x := by
  choose q hq using hp
  obtain ⟨a, rfl⟩ := hx
  have hq1 : ∑ i, q i = 1 := by
    have h : ((∑ i, q i : ℝ) : EReal) = ((1 : ℝ) : EReal) := by
      rw [coe_sum, ← Finset.sum_congr rfl fun i _ => hq i, h1, EReal.coe_one]
    exact EReal.coe_injective h
  rw [Finset.sum_congr rfl fun i _ => by rw [hq i, ← EReal.coe_mul], ← coe_sum, ← Finset.sum_mul, hq1, one_mul]

/-! ## The layer norm of a constant -/

/-- The mean of 512 copies of a real is that real. -/
theorem mean_const {x : EReal} (hx : IsReal x) :
    Ideal.div (∑ _i : Fin 1, ∑ _k : Fin 512, x) ((512 : ℝ) : EReal) = x := by
  obtain ⟨a, rfl⟩ := hx
  rw [Finset.sum_congr rfl fun i _ => (coe_sum Finset.univ fun _ : Fin 512 => a).symm, ← coe_sum,
    Ideal.div_coe (by norm_num), ← EReal.coe_mul]
  congr 1
  rw [Finset.sum_const, Finset.sum_const, Finset.card_univ, Finset.card_univ, Fintype.card_fin, Fintype.card_fin]
  simp [mul_comm]

/-- A real taken from itself leaves zero. -/
theorem sub_self_of_isReal {x : EReal} (hx : IsReal x) : x - x = 0 := by
  obtain ⟨a, rfl⟩ := hx; rw [← EReal.coe_sub, sub_self, EReal.coe_zero]

/-! ## The literals the programs hold -/

/-- `0xFF800000` denotes the lower infinity. -/
theorem ofBits_neg_inf : Ideal.ofBits .f32 0xFF800000#32 = ⊥ := by simp [Ideal.ofBits, Ideal.ieee]

/-- `0x7F800000` denotes the upper infinity. -/
theorem ofBits_inf : Ideal.ofBits .f32 0x7F800000#32 = ⊤ := by simp [Ideal.ofBits, Ideal.ieee]

/-- `0x00000000` denotes zero. -/
theorem ofBits_zero : Ideal.ofBits .f32 0x00000000#32 = 0 := by simp [Ideal.ofBits, Ideal.ieee]

/-- `0x40000000` denotes two. -/
theorem ofBits_two : Ideal.ofBits .f32 0x40000000#32 = ((2 : ℝ) : EReal) := by
  simp [Ideal.ofBits, Ideal.ieee, -EReal.coe_mul]; norm_num

/-- `0x40400000` denotes three. -/
theorem ofBits_three : Ideal.ofBits .f32 0x40400000#32 = ((3 : ℝ) : EReal) := by
  simp [Ideal.ofBits, Ideal.ieee, -EReal.coe_mul]; norm_num

/-- `0x44000000` denotes 512. -/
theorem ofBits_512 : Ideal.ofBits .f32 0x44000000#32 = ((512 : ℝ) : EReal) := by
  simp [Ideal.ofBits, Ideal.ieee, -EReal.coe_mul]; norm_num

/-- `0x3727C5AC`, the layer norm's epsilon, denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The square root of a positive real is a nonzero real. -/
theorem sqrt_pos {r : ℝ} (hr : 0 < r) : ∃ q : ℝ, q ≠ 0 ∧ Ideal.sqrt (r : EReal) = (q : EReal) :=
  ⟨Real.sqrt r, (Real.sqrt_pos.2 hr).ne', by rw [Ideal.sqrt_coe, if_neg hr.not_gt]⟩

/-! ## The two spellings of the GELU -/

/-- A negated quotient is the quotient of the negation. -/
theorem neg_div_coe {y : ℝ} (hy : y ≠ 0) (x : EReal) : Ideal.div (-x) (y : EReal) = -Ideal.div x (y : EReal) := by
  rw [Ideal.div_coe hy, Ideal.div_coe hy, EReal.neg_mul]

/-- Half of `x` times the complementary error function at `-x / r` is half of `x` times one plus the error function
    at `x / r`, at the infinities too. -/
theorem gelu_eq {r : ℝ} (hr : r ≠ 0) (x h : EReal) :
    h * x * Ideal.erfc (Ideal.div (-x) (r : EReal)) = x * h * (1 + Ideal.erf (Ideal.div x (r : EReal))) := by
  rw [neg_div_coe hr, Ideal.erfc_neg, mul_comm h x]

/-! ## The result both programs compute -/

/-- The result at row `b`, lane `n`, whatever `b`: with `x` the layer norm's bias at lane `n`, the logistic function
    of the last weight times the GELU of `x`, plus the last bias. -/
def value (lnb : (⟨2, ![1, 512]⟩ : Shape).Idx → EReal) (w : (⟨2, ![1, 1]⟩ : Shape).Idx → EReal)
    (b : (⟨1, ![1]⟩ : Shape).Idx → EReal) : (⟨2, ![8, 512]⟩ : Shape).Idx → EReal := fun j =>
  Ideal.logistic (w (ix2 0 0) * (lnb (ix2 0 (j 1)) * Ideal.ofBits .f32 0x3F000000#32
    * (1 + Ideal.erf (Ideal.div (lnb (ix2 0 (j 1))) (Ideal.sqrt (Ideal.ofBits .f32 0x40000000#32))))) + b (ix1 0))

end Cert.Extended

end
-- ==== Proof.KernelValue.lean ====
/- The kernel's result: its one grid point writes the whole array, whose elements are read off the body. -/
module

public import proofs.«01_k».proof.Proof.Extended
public import proofs.«01_k».proof.Proof.Gen.KernelIdeal.Value
public import Idealize.ShloMosaic.Lib.Pointwise
public import Idealize.ShloMosaic.Lib.Claim
public import Idealize.ShloMosaic.Lib.Pipeline.ValueKit

@[expose] public section

noncomputable section

namespace Cert.KernelSide

open Cert.KernelIdeal Cert.KernelIdeal.Gen Cert.KernelIdeal.Value Idealize.ShloMosaic Idealize.ShloMosaic.TcCoe
  Idealize.SL.Sem Idealize.ShloMosaic.StableHlo
open Cert.Extended

variable (m : (ℓ : Loc nD τ sig) → Buf (Elt Ideal) ℓ)

/-- At region entry the third operand's buffer holds the last bias under its other shape. -/
theorem V_main_v0 (c : Dev nD) :
    V m c main_v0 = shapeCast S1x1 (m ((c : Thread nD τ).loc main_arg10)) shapeCasts_S1_S1x1 := by
  unfold_abbrev_sides
  after_results
  rfl

/-- The first operand's block starts at the origin. -/
theorem index0 : ∀ t : Fin cfg0.N, win0_0.index t = ![0, 0] := by decide +kernel
/-- The second operand's block starts at the origin. -/
theorem index1 : ∀ t : Fin cfg0.N, win0_1.index t = ![0, 0] := by decide +kernel
/-- The third operand's block starts at the origin. -/
theorem index2 : ∀ t : Fin cfg0.N, win0_2.index t = ![0, 0] := by decide +kernel
/-- The result's block starts at the origin. -/
theorem index3 : ∀ t : Fin cfg0.N, win0_3.index t = ![0, 0] := by decide +kernel

/-- The first operand's block at the grid point is the layer norm's bias. -/
theorem iblk0 (c : Dev nD) (t : Fin cfg0.N) (i : S1x512.Idx) :
    iblk m c 0 t i = m ((c : Thread nD τ).loc main_arg8) i := by
  rw [← V_main_arg8 m c]
  refine congrArg (V m c main_arg8) (funext fun a => Fin.ext ?_)
  blk_simp [index0]
  fin_cases a <;> simp

/-- The second operand's block at the grid point is the last weight. -/
theorem iblk1 (c : Dev nD) (t : Fin cfg0.N) (i : S1x1.Idx) :
    iblk m c 1 t i = m ((c : Thread nD τ).loc main_arg9) i := by
  rw [← V_main_arg9 m c]
  refine congrArg (V m c main_arg9) (funext fun a => Fin.ext ?_)
  blk_simp [index1]
  fin_cases a <;> simp

/-- The third operand's block at the grid point is the last bias. -/
theorem iblk2 (c : Dev nD) (t : Fin cfg0.N) (i : S1x1.Idx) :
    iblk m c 2 t i = m ((c : Thread nD τ).loc main_arg10) (ix1 0) := by
  have h : iblk m c 2 t i = V m c main_v0 i := by
    refine congrArg (V m c main_v0) (funext fun a => Fin.ext ?_)
    blk_simp [index2]
    fin_cases a <;> simp
  rw [h, V_main_v0]
  exact congrArg (m ((c : Thread nD τ).loc main_arg10)) (eq_ix1 _ |>.trans (congrArg ix1 (Subsingleton.elim _ _)))

/-- The result array after the run is `value` of the layer norm's bias, the last weight and the last bias. -/
theorem out (c : Dev nD) : (dats m 0 c).arrAt 3 cfg0.N
    = value (m ((c : Thread nD τ).loc main_arg8)) (m ((c : Thread nD τ).loc main_arg9))
        (m ((c : Thread nD τ).loc main_arg10)) := by
  refine (dats m 0 c).arrAt_eq_of_covers 3 _ (by decide +kernel) fun t hf y => ?_
  blk_simp
  rw [after0_3]
  frame_out
  unfold k0_pay1
  pointwise
  unfold value
  have hy : (((View.whole main_v1).slice (win0_3.rect t)).emb y 1 : Fin 512) = y 1 := by
    refine Fin.ext ?_
    blk_simp [index3]
  rw [hy, iblk0, iblk1, iblk2]
  rfl

end Cert.KernelSide

end
-- ==== Proof.Precondition.lean ====
/- What the precondition gives: every element of the first seven arguments is a real number. -/
module

public import proofs.«01_k».proof.Defs
public import proofs.«01_k».proof.Proof.Gen.KernelIdeal
public import proofs.«01_k».proof.Proof.Gen.Pre_finite
public import proofs.«01_k».proof.Proof.Extended
public import Idealize.ShloMosaic.Lib.Pointwise

@[expose] public section

noncomputable section

namespace Cert.Precondition

open Idealize.ShloMosaic Cert.Extended

/-- An element whose absolute value compares below the pattern of the upper infinity is real. -/
theorem isReal_of_cmp {S : Shape} (h : Cert.Pre_finite.S_.BroadcastsInDim S ![]) (x : FVec Ideal S .f32)
    (hx : cmpf .olt (Host.absf x) (broadcastInDim S ![] h (constant Cert.Pre_finite.S_ .f32 0x7F800000#32)) = fun _ => 1#1)
    (i : S.Idx) : IsReal (x i) := by
  have h1 := congrFun hx i
  have h2 : Ideal.cmp .olt (max (x i) (-(x i))) (Ideal.ofBits .f32 0x7F800000#32) = 1#1 := h1
  rw [ofBits_inf] at h2
  refine isReal_of_abs_lt ?_
  by_contra hc
  simp [Ideal.cmp, hc] at h2

variable {m : (ℓ : Loc Cert.KernelIdeal.nD Cert.KernelIdeal.τ Cert.KernelIdeal.sig) → Buf (Elt Ideal) ℓ}
  (h : Cert.Pre_KernelIdeal_finite m) (c : Dev Cert.KernelIdeal.nD)
include h

/-- The queries' input is real. -/
theorem real0 (i : Cert.KernelIdeal.S8x512x3.Idx) : IsReal (m
      ((c.tc : Thread Cert.KernelIdeal.nD Cert.KernelIdeal.τ).loc Cert.KernelIdeal.main_arg0) i) :=
  isReal_of_cmp _ _ (h c).1 i

/-- The neighbours' input is real. -/
theorem real1 (i : Cert.KernelIdeal.S8x16384x3.Idx) : IsReal (m
      ((c.tc : Thread Cert.KernelIdeal.nD Cert.KernelIdeal.τ).loc Cert.KernelIdeal.main_arg1) i) :=
  isReal_of_cmp _ _ (h c).2.1 i

/-- The input projection's weights are real. -/
theorem real2 (i : Cert.KernelIdeal.S9x3.Idx) : IsReal (m
      ((c.tc : Thread Cert.KernelIdeal.nD Cert.KernelIdeal.τ).loc Cert.KernelIdeal.main_arg2) i) :=
  isReal_of_cmp _ _ (h c).2.2.1 i

/-- The input projection's biases are real. -/
theorem real3 (i : Cert.KernelIdeal.S9.Idx) : IsReal (m
      ((c.tc : Thread Cert.KernelIdeal.nD Cert.KernelIdeal.τ).loc Cert.KernelIdeal.main_arg3) i) :=
  isReal_of_cmp _ _ (h c).2.2.2.1 i

/-- The output projection's weights are real. -/
theorem real4 (i : Cert.KernelIdeal.S3x3.Idx) : IsReal (m
      ((c.tc : Thread Cert.KernelIdeal.nD Cert.KernelIdeal.τ).loc Cert.KernelIdeal.main_arg4) i) :=
  isReal_of_cmp _ _ (h c).2.2.2.2.1 i

/-- The output projection's biases are real. -/
theorem real5 (i : Cert.KernelIdeal.S3.Idx) : IsReal (m
      ((c.tc : Thread Cert.KernelIdeal.nD Cert.KernelIdeal.τ).loc Cert.KernelIdeal.main_arg5) i) :=
  isReal_of_cmp _ _ (h c).2.2.2.2.2.1 i

/-- The first convolution's weights are real. -/
theorem real6 (i : Cert.KernelIdeal.S1x3.Idx) : IsReal (m
      ((c.tc : Thread Cert.KernelIdeal.nD Cert.KernelIdeal.τ).loc Cert.KernelIdeal.main_arg6) i) :=
  isReal_of_cmp _ _ (h c).2.2.2.2.2.2 i

end Cert.Precondition

end
-- ==== Proof.Attention.lean ====
/- The reference up to its convolved attention output, index by index: the first softmax summed over its own axis is
   one, so the value vectors are the same at every position and the attention averages a constant. -/
module

public import proofs.«01_k».proof.Proof.Extended
public import proofs.«01_k».proof.Proof.Gen.ReferenceIdeal.Run
public import Idealize.ShloMosaic.Lib.Pointwise
public import Idealize.ShloMosaic.Lib.Tactic.CleanTypes

@[expose] public section

noncomputable section

namespace Cert.ReferenceSide

open Cert.ReferenceIdeal Cert.ReferenceIdeal.Gen Cert.ReferenceIdeal.Value Idealize.ShloMosaic
  Idealize.ShloMosaic.TcCoe Idealize.SL.Sem Idealize.ShloMosaic.StableHlo
open Cert.Extended

variable (V0 : Valuation τ sig (Elt Ideal))

/-! ## The arguments and the named intermediate arrays, as arrays of extended reals -/

/-- The queries' input. -/
abbrev argU : S8x512x3.Idx → EReal := V0 (Proc.devRef .tc main_arg0)
/-- The neighbours' input. -/
abbrev argX : S8x16384x3.Idx → EReal := V0 (Proc.devRef .tc main_arg1)
/-- The input projection's weights. -/
abbrev argInW : S9x3.Idx → EReal := V0 (Proc.devRef .tc main_arg2)
/-- The input projection's biases. -/
abbrev argInB : S9.Idx → EReal := V0 (Proc.devRef .tc main_arg3)
/-- The output projection's weights. -/
abbrev argOutW : S3x3.Idx → EReal := V0 (Proc.devRef .tc main_arg4)
/-- The output projection's biases. -/
abbrev argOutB : S3.Idx → EReal := V0 (Proc.devRef .tc main_arg5)
/-- The first convolution's weights. -/
abbrev argConvW : S1x3.Idx → EReal := V0 (Proc.devRef .tc main_arg6)
/-- The layer norm's biases. -/
abbrev argNormB : S1x512.Idx → EReal := V0 (Proc.devRef .tc main_arg8)
/-- The gathered neighbours. -/
abbrev neighbour : S8x8x512x3.Idx → EReal := res_main_v30 V0
/-- The exponentials of the first softmax. -/
abbrev expNeighbour : S8x8x512x3.Idx → EReal := res_main_v37 V0
/-- The first softmax summed over its own axis. -/
abbrev pooled : S8x512x3.Idx → EReal := res_main_v42 V0
/-- The attention scores. -/
abbrev score : S8x512x512.Idx → EReal := res_main_v67 V0
/-- The exponentials of the attention's softmax. -/
abbrev expScore : S8x512x512.Idx → EReal := res_main_v74 V0
/-- The convolved attention output. -/
abbrev conv : S8x1x512.Idx → EReal := res_main_v87 V0
/-- Its deviations from their mean, inside the variance. -/
abbrev deviation : S8x1x512.Idx → EReal := res_main_call0_v5 V0
/-- The variance's divisor. -/
abbrev count : S_.Idx → EReal := res_main_call0_v8 V0
/-- The layer norm's result. -/
abbrev normed : S8x1x512.Idx → EReal := res_main_v105 V0

/-- Every element of the first seven arguments is a real number. -/
structure Finite : Prop where
  u : ∀ i, IsReal (argU V0 i)
  x : ∀ i, IsReal (argX V0 i)
  inW : ∀ i, IsReal (argInW V0 i)
  inB : ∀ i, IsReal (argInB V0 i)
  outW : ∀ i, IsReal (argOutW V0 i)
  outB : ∀ i, IsReal (argOutB V0 i)
  convW : ∀ i, IsReal (argConvW V0 i)

variable {V0}

/-- The gathered neighbours are elements of the second argument, so real. -/
theorem neighbours_real (hV : Finite V0) (i : S8x8x512x3.Idx) : IsReal (neighbour V0 i) := by
  unfold neighbour res_main_v30
  exact hV.x _

variable (V0) in
/-- The greatest of the eight neighbours at one place, the shift of the first softmax. -/
def topNeighbour (b : Fin 8) (n : Fin 512) (k : Fin 3) : EReal :=
  max ⊥ (Finset.univ.fold max ⊥ fun a : Fin 8 => neighbour V0 (ix4 b a n k))

/-- That greatest is real. -/
theorem topNeighbour_real (hV : Finite V0) (b : Fin 8) (n : Fin 512) (k : Fin 3) : IsReal (topNeighbour V0 b n k) := by
  unfold topNeighbour
  rw [bot_sup_eq]
  exact isReal_fold_max _ Finset.univ_nonempty _ fun a _ => neighbours_real hV _

/-- The first softmax's exponentials, element by element. -/
theorem exp_neighbour (b a : Fin 8) (n : Fin 512) (k : Fin 3) :
    expNeighbour V0 (ix4 b a n k) = Ideal.exp (neighbour V0 (ix4 b a n k) - topNeighbour V0 b n k) := by
  unfold expNeighbour res_main_v37
  clean_types
  pointwise
  rw [ofBits_neg_inf]
  rfl

/-- The first softmax summed over the axis it normalizes is one. -/
theorem neighbours_sum (hV : Finite V0) (b : Fin 8) (n : Fin 512) (k : Fin 3) : pooled V0 (ix3 b n k) = 1 := by
  unfold pooled res_main_v42
  clean_types
  pointwise
  simp only [exp_neighbour]
  exact sum_softmax (fun a : Fin 8 => neighbour V0 (ix4 b a n k)) (fun a => neighbours_real hV _) _
    (topNeighbour_real hV b n k)

/-- The attention scores are real. -/
theorem score_real (hV : Finite V0) (b : Fin 8) (n p : Fin 512) : IsReal (score V0 (ix3 b n p)) := by
  unfold score res_main_v67
  clean_types
  pointwise
  simp only [neighbours_sum hV]
  rw [ofBits_three]
  obtain ⟨q, hq, e⟩ := sqrt_pos (r := 3) (by norm_num)
  rw [e]
  refine IsReal.div_coe (isReal_sum _ _ fun k _ => IsReal.mul ?_ ?_) hq
  · exact (isReal_sum _ _ fun l _ => (hV.u _).mul (hV.inW _)).add (hV.inB _)
  · exact (isReal_sum _ _ fun l _ => isReal_one.mul (hV.inW _)).add (hV.inB _)

variable (V0) in
/-- The greatest score of one row, the shift of the second softmax. -/
def topScore (b : Fin 8) (n : Fin 512) : EReal :=
  max ⊥ (Finset.univ.fold max ⊥ fun p : Fin 512 => score V0 (ix3 b n p))

/-- That greatest is real. -/
theorem topScore_real (hV : Finite V0) (b : Fin 8) (n : Fin 512) : IsReal (topScore V0 b n) := by
  unfold topScore
  rw [bot_sup_eq]
  exact isReal_fold_max _ Finset.univ_nonempty _ fun p _ => score_real hV _ _ _

/-- The second softmax's exponentials, element by element. -/
theorem exp_score (b : Fin 8) (n p : Fin 512) :
    expScore V0 (ix3 b n p) = Ideal.exp (score V0 (ix3 b n p) - topScore V0 b n) := by
  unfold expScore res_main_v74
  clean_types
  pointwise
  rw [ofBits_neg_inf]
  rfl

variable (V0) in
/-- What every value vector holds in coordinate `k`: the row of the value weights summed, plus the value bias. -/
def valueCoord (k : Fin 3) : EReal :=
  (∑ l : Fin 3, 1 * argInW V0 (ix2 ⟨6 + k.val, by omega⟩ l))
    + argInB V0 (ix1 ⟨6 + k.val, by omega⟩)

/-- It is real. -/
theorem valueCoord_real (hV : Finite V0) (k : Fin 3) : IsReal (valueCoord V0 k) :=
  (isReal_sum _ _ fun _ _ => isReal_one.mul (hV.inW _)).add (hV.inB _)

/-- One row of the second softmax's weights averages a real constant to itself. -/
theorem weights (hV : Finite V0) (b : Fin 8) (n : Fin 512) {x : EReal} (hx : IsReal x) :
    ∑ p : Fin 512, Ideal.div (expScore V0 (ix3 b n p)) (∑ q : Fin 512, expScore V0 (ix3 b n q)) * x = x := by
  simp only [exp_score]
  exact sum_mul_const _ (fun p => isReal_softmax (fun q : Fin 512 => score V0 (ix3 b n q))
      (fun q => score_real hV _ _ _) _ (topScore_real hV b n) p)
    (sum_softmax (fun q : Fin 512 => score V0 (ix3 b n q)) (fun q => score_real hV _ _ _) _
      (topScore_real hV b n)) hx

variable (V0) in
/-- The one value of the convolved attention output. -/
def level : EReal :=
  ∑ k : Fin 3, ((∑ l : Fin 3, valueCoord V0 l * argOutW V0 (ix2 k l))
    + argOutB V0 (ix1 k)) * argConvW V0 (ix2 0 k)

/-- It is real. -/
theorem level_real (hV : Finite V0) : IsReal (level V0) :=
  isReal_sum _ _ fun _ _ => ((isReal_sum _ _ fun _ _ => (valueCoord_real hV _).mul (hV.outW _)).add (hV.outB _)).mul
    (hV.convW _)

/-- The convolved attention output is that one value everywhere. -/
theorem conv_const (hV : Finite V0) (b : Fin 8) (z : Fin 1) (n : Fin 512) :
    conv V0 (ix3 b z n) = level V0 := by
  unfold conv res_main_v87
  clean_types
  pointwise
  simp only [neighbours_sum hV]
  have h : ∀ l : Fin 3, _ := fun l => weights hV b n (valueCoord_real hV l)
  unfold valueCoord at h
  simp only [h]
  rfl

end Cert.ReferenceSide

end
-- ==== Proof.RefValue.lean ====
/- The reference from its convolved attention output on, index by index: the layer norm of a constant is its bias, and
   what is left is `value`. -/
module

public import proofs.«01_k».proof.Proof.Attention
public import proofs.«01_k».proof.Proof.Gen.ReferenceIdeal.Run
public import Idealize.ShloMosaic.Lib.Pointwise
public import Idealize.ShloMosaic.Lib.Tactic.CleanTypes

@[expose] public section

noncomputable section

namespace Cert.ReferenceSide

open Cert.ReferenceIdeal Cert.ReferenceIdeal.Gen Cert.ReferenceIdeal.Value Idealize.ShloMosaic
  Idealize.ShloMosaic.TcCoe Idealize.SL.Sem Idealize.ShloMosaic.StableHlo
open Cert.Extended

variable {V0 : Valuation τ sig (Elt Ideal)}

/-- Inside the variance the deviations from the mean vanish. -/
theorem deviation_zero (hV : Finite V0) (b : Fin 8) (z : Fin 1) (n : Fin 512) :
    deviation V0 (ix3 b z n) = 0 := by
  unfold deviation res_main_call0_v5
  clean_types
  pointwise
  simp only [conv_const hV]
  rw [ofBits_512, mean_const (level_real hV), sub_self_of_isReal (level_real hV)]

/-- The variance's divisor is 512. -/
theorem count_eq : count V0 ix0 = ((512 : ℝ) : EReal) := by
  show Ideal.ofBits .f32 0x44000000#32 - (((0#32).toInt : ℝ) : EReal) = _
  rw [ofBits_512]
  simp

/-- The layer norm of the constant is its bias, whatever its weights. -/
theorem norm_eq (hV : Finite V0) (b : Fin 8) (z : Fin 1) (n : Fin 512) :
    normed V0 (ix3 b z n) = argNormB V0 (ix2 0 n) := by
  unfold normed res_main_v105
  clean_types
  pointwise
  simp only [conv_const hV, deviation_zero hV, count_eq]
  rw [ofBits_512, mean_const (level_real hV), sub_self_of_isReal (level_real hV)]
  obtain ⟨e, he, hb⟩ := ofBits_eps
  obtain ⟨q, hq, hs⟩ := sqrt_pos he
  have h512 : (0 : EReal) < ((512 : ℝ) : EReal) := by exact_mod_cast (by norm_num : (0 : ℝ) < 512)
  rw [if_pos h512, hb]
  simp only [mul_zero, Finset.sum_const_zero]
  rw [Ideal.div_coe (by norm_num : (512 : ℝ) ≠ 0), zero_mul, zero_add, hs, Ideal.div_coe hq, zero_mul, zero_mul,
    zero_add]

/-- The reference's result is `value` of the layer norm's bias, the last weight and the last bias. -/
theorem out (hV : Finite V0) :
    val3 V0 (Proc.devRef .tc main_v127) = value (V0 (Proc.devRef .tc main_arg8)) (V0 (Proc.devRef .tc main_arg9))
      (V0 (Proc.devRef .tc main_arg10)) := by
  rw [val3_main_v127]
  clean_types
  funext j
  pointwise
  have h := norm_eq hV (j 0) 0 (j 1)
  unfold normed at h
  rw [h, ofBits_two]
  obtain ⟨q, hq, e⟩ := sqrt_pos (r := 2) (by norm_num)
  unfold value
  rw [ofBits_two, e, gelu_eq hq]
  rfl

end Cert.ReferenceSide

end
-- ==== Proof.Claims.lean ====
/- The claims one by one: the frames of the three programs, and the two results equal. -/
module

public import proofs.«01_k».proof.Defs
public import proofs.«01_k».proof.Proof.Gen.Kernel.Frame
public import proofs.«01_k».proof.Proof.Gen.Pre_finite
public import proofs.«01_k».proof.Proof.KernelValue
public import proofs.«01_k».proof.Proof.Precondition
public import proofs.«01_k».proof.Proof.RefValue
public import Idealize.ShloMosaic.Lib.Quiescent

@[expose] public section

noncomputable section

namespace Cert.Claims

open Idealize.ShloMosaic Idealize.ShloMosaic.TcCoe Idealize.SL.Sem Idealize.ShloMosaic.StableHlo

/-- The reference runs to its end, leaves its arguments and ends with every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the kernel's first seven arguments are finite and the reference's arguments are the kernel's, the reference's
    first seven are real. -/
theorem finite_reference
    {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (h : Cert.Pre_KernelIdeal_finite m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceSide.Finite (launchContents m' c) where
  u i := (congrArg Cert.Extended.IsReal (congrFun h0 i)).mpr (Cert.Precondition.real0 h c i)
  x i := (congrArg Cert.Extended.IsReal (congrFun h1 i)).mpr (Cert.Precondition.real1 h c i)
  inW i := (congrArg Cert.Extended.IsReal (congrFun h2 i)).mpr (Cert.Precondition.real2 h c i)
  inB i := (congrArg Cert.Extended.IsReal (congrFun h3 i)).mpr (Cert.Precondition.real3 h c i)
  outW i := (congrArg Cert.Extended.IsReal (congrFun h4 i)).mpr (Cert.Precondition.real4 h c i)
  outB i := (congrArg Cert.Extended.IsReal (congrFun h5 i)).mpr (Cert.Precondition.real5 h c i)
  convW i := (congrArg Cert.Extended.IsReal (congrFun h6 i)).mpr (Cert.Precondition.real6 h c i)

/-- From equal arguments, the first seven finite, the kernel and the reference end with the same result: `value` of the
    layer norm's bias, the last weight and the last bias. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, -, h8, h9, h10⟩ := hagree c
  rw [Cert.KernelSide.out m c, ← h8, ← h9, ← h10]
  exact (Cert.ReferenceIdeal.Value.val3_main_v127 (launchContents m' c)).symm.trans
    (Cert.ReferenceSide.out (finite_reference hpre c h0 h1 h2 h3 h4 h5 h6))

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, Cert.Claims.frame_reference,
    fun m ρ _ => Cert.Claims.frame_reference m ρ trivial, trivial, Cert.Claims.algebraic⟩

end Cert.Proof

end
